-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v11)) (v5 : (c : Dev Cert.KernelIdeal.nD) → Buf (Elt Ideal) ((c.tc : Thread Cert.KernelIdeal.nD Cert.KernelIdeal.τ).loc Cert.KernelIdeal.main_v6)) (v6 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v11) = v4 c
          ∧ r.2.mem ((c.tc : Thread Cert.KernelIdeal.nD Cert.KernelIdeal.τ).loc Cert.KernelIdeal.main_v6) = v5 c
          ∧ r.2.mem ((c.tc : Thread Cert.KernelIdeal.nD Cert.KernelIdeal.τ).loc Cert.KernelIdeal.main_v9) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_v1) = v3 c
          ∧ r.2.mem ((c.tc : Thread Cert.ReferenceIdeal.nD Cert.ReferenceIdeal.τ).loc Cert.ReferenceIdeal.main_v9) = v4 c
          ∧ r.2.mem ((c.tc : Thread Cert.ReferenceIdeal.nD Cert.ReferenceIdeal.τ).loc Cert.ReferenceIdeal.main_v18) = v5 c
          ∧ r.2.mem ((c.tc : Thread Cert.ReferenceIdeal.nD Cert.ReferenceIdeal.τ).loc Cert.ReferenceIdeal.main_v21) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768 : Shape := ⟨1, ![32768]⟩
abbrev S16 : Shape := ⟨1, ![16]⟩
abbrev S32768x3 : Shape := ⟨2, ![32768, 3]⟩
abbrev S16x3x3 : Shape := ⟨3, ![16, 3, 3]⟩
abbrev S3x32768 : Shape := ⟨2, ![3, 32768]⟩
abbrev S3x3x16 : Shape := ⟨3, ![3, 3, 16]⟩
abbrev S39322 : Shape := ⟨1, ![39322]⟩
abbrev S17 : Shape := ⟨1, ![17]⟩
abbrev S3x39322 : Shape := ⟨2, ![3, 39322]⟩
abbrev S3x3x17 : Shape := ⟨3, ![3, 3, 17]⟩
abbrev S11 : Shape := ⟨1, ![11]⟩
abbrev S1 : Shape := ⟨1, ![1]⟩
abbrev S_ : Shape := ⟨0, ![]⟩
abbrev S6554 : Shape := ⟨1, ![6554]⟩
abbrev S3x6554 : Shape := ⟨2, ![3, 6554]⟩
abbrev S3x3x1 : Shape := ⟨3, ![3, 3, 1]⟩
abbrev S39322x3 : Shape := ⟨2, ![39322, 3]⟩
abbrev S17x3x3 : Shape := ⟨3, ![17, 3, 3]⟩

abbrev nBuf : Space → Nat
  | .hbm => 24
  | .vmem => 8
  | .smem => 0
  | _ => 0

abbrev bufTy : (tb : Table) → Fin (tcTables nBuf tb) → BufTy
  | .hbm, ⟨0, _⟩ => ⟨S32768, .i32⟩
  | .hbm, ⟨1, _⟩ => ⟨S16, .i32⟩
  | .hbm, ⟨2, _⟩ => ⟨S32768, .i32⟩
  | .hbm, ⟨3, _⟩ => ⟨S32768x3, .f32⟩
  | .hbm, ⟨4, _⟩ => ⟨S16x3x3, .f32⟩
  | .hbm, ⟨5, _⟩ => ⟨S3x32768, .f32⟩
  | .hbm, ⟨6, _⟩ => ⟨S3x3x16, .f32⟩
  | .hbm, ⟨7, _⟩ => ⟨S39322, .i32⟩
  | .hbm, ⟨8, _⟩ => ⟨S17, .i32⟩
  | .hbm, ⟨9, _⟩ => ⟨S39322, .i32⟩
  | .hbm, ⟨10, _⟩ => ⟨S3x39322, .f32⟩
  | .hbm, ⟨11, _⟩ => ⟨S3x3x17, .f32⟩
  | .hbm, ⟨12, _⟩ => ⟨S39322, .i8⟩
  | .hbm, ⟨13, _⟩ => ⟨S39322, .i8⟩
  | .hbm, ⟨14, _⟩ => ⟨S_, .i8⟩
  | .hbm, ⟨15, _⟩ => ⟨S39322, .i8⟩
  | .hbm, ⟨16, _⟩ => ⟨S39322, .i1⟩
  | .hbm, ⟨17, _⟩ => ⟨S39322, .i1⟩
  | .hbm, ⟨18, _⟩ => ⟨S17, .i32⟩
  | .hbm, ⟨19, _⟩ => ⟨S_, .i32⟩
  | .hbm, ⟨20, _⟩ => ⟨S17, .i32⟩
  | .hbm, ⟨21, _⟩ => ⟨S17, .i1⟩
  | .hbm, ⟨22, _⟩ => ⟨S39322x3, .f32⟩
  | .hbm, ⟨23, _⟩ => ⟨S17x3x3, .f32⟩
  | .local _ .vmem, ⟨0, _⟩ => ⟨S39322, .i32⟩
  | .local _ .vmem, ⟨1, _⟩ => ⟨S39322, .i32⟩
  | .local _ .vmem, ⟨2, _⟩ => ⟨S39322, .i8⟩
  | .local _ .vmem, ⟨3, _⟩ => ⟨S3x39322, .f32⟩
  | .local _ .vmem, ⟨4, _⟩ => ⟨S3x3x17, .f32⟩
  | .local _ .vmem, ⟨5, _⟩ => ⟨S17, .i32⟩
  | .local _ .vmem, ⟨6, _⟩ => ⟨S3x3x16, .f32⟩
  | .local _ .vmem, ⟨7, _⟩ => ⟨S16, .i32⟩
  | _, _ => ⟨S32768, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v2_5 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩

abbrev nD : Nat := 1
abbrev τ : Topo := Topo.v7x

variable {F : FTy → Type} [FloatOps F]

abbrev grid0 : Pipeline.Grid := .none
-- ==== ReferenceIdeal.lean ====
abbrev S32768 : Shape := ⟨1, ![32768]⟩
abbrev S16 : Shape := ⟨1, ![16]⟩
abbrev S32768x3 : Shape := ⟨2, ![32768, 3]⟩
abbrev S16x3x3 : Shape := ⟨3, ![16, 3, 3]⟩
abbrev S1 : Shape := ⟨1, ![1]⟩
abbrev S_ : Shape := ⟨0, ![]⟩
abbrev S6554x3 : Shape := ⟨2, ![6554, 3]⟩
abbrev S39322x3 : Shape := ⟨2, ![39322, 3]⟩
abbrev S3x3 : Shape := ⟨2, ![3, 3]⟩
abbrev S1x3x3 : Shape := ⟨3, ![1, 3, 3]⟩
abbrev S17x3x3 : Shape := ⟨3, ![17, 3, 3]⟩
abbrev S17 : Shape := ⟨1, ![17]⟩
abbrev S6554 : Shape := ⟨1, ![6554]⟩
abbrev S39322 : Shape := ⟨1, ![39322]⟩

abbrev nBuf : Space → Nat
  | .hbm => 35
  | .vmem => 0
  | .smem => 0
  | _ => 0

abbrev bufTy : (tb : Table) → Fin (tcTables nBuf tb) → BufTy
  | .hbm, ⟨0, _⟩ => ⟨S32768, .i32⟩
  | .hbm, ⟨1, _⟩ => ⟨S16, .i32⟩
  | .hbm, ⟨2, _⟩ => ⟨S32768, .i32⟩
  | .hbm, ⟨3, _⟩ => ⟨S32768x3, .f32⟩
  | .hbm, ⟨4, _⟩ => ⟨S16x3x3, .f32⟩
  | .hbm, ⟨5, _⟩ => ⟨S1, .i32⟩
  | .hbm, ⟨6, _⟩ => ⟨S_, .f32⟩
  | .hbm, ⟨7, _⟩ => ⟨S6554x3, .f32⟩
  | .hbm, ⟨8, _⟩ => ⟨S39322x3, .f32⟩
  | .hbm, ⟨9, _⟩ => ⟨S3x3, .i32⟩
  | .hbm, ⟨10, _⟩ => ⟨S3x3, .i32⟩
  | .hbm, ⟨11, _⟩ => ⟨S_, .i32⟩
  | .hbm, ⟨12, _⟩ => ⟨S3x3, .i32⟩
  | .hbm, ⟨13, _⟩ => ⟨S3x3, .i32⟩
  | .hbm, ⟨14, _⟩ => ⟨S3x3, .i1⟩
  | .hbm, ⟨15, _⟩ => ⟨S3x3, .f32⟩
  | .hbm, ⟨16, _⟩ => ⟨S1x3x3, .f32⟩
  | .hbm, ⟨17, _⟩ => ⟨S17x3x3, .f32⟩
  | .hbm, ⟨18, _⟩ => ⟨S17, .i32⟩
  | .hbm, ⟨19, _⟩ => ⟨S_, .i32⟩
  | .hbm, ⟨20, _⟩ => ⟨S6554, .i32⟩
  | .hbm, ⟨21, _⟩ => ⟨S_, .i32⟩
  | .hbm, ⟨22, _⟩ => ⟨S6554, .i32⟩
  | .hbm, ⟨23, _⟩ => ⟨S6554, .i32⟩
  | .hbm, ⟨24, _⟩ => ⟨S39322, .i32⟩
  | .hbm, ⟨25, _⟩ => ⟨S_, .i32⟩
  | .hbm, ⟨26, _⟩ => ⟨S6554, .i32⟩
  | .hbm, ⟨27, _⟩ => ⟨S39322, .i32⟩
  | .hbm, ⟨28, _⟩ => ⟨S_, .i32⟩
  | .hbm, ⟨29, _⟩ => ⟨S39322, .i32⟩
  | .hbm, ⟨30, _⟩ => ⟨S39322, .i1⟩
  | .hbm, ⟨31, _⟩ => ⟨S17, .i32⟩
  | .hbm, ⟨32, _⟩ => ⟨S_, .i32⟩
  | .hbm, ⟨33, _⟩ => ⟨S17, .i32⟩
  | .hbm, ⟨34, _⟩ => ⟨S17, .i1⟩
  | _, _ => ⟨S32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]
-- ==== Proof.Pad.lean ====
module

public import Idealize.ShloMosaic.Lib.WritesUnit
public import Idealize.ShloMosaic.Lib.Pointwise

/-! Arrays padded along their last axis, and the fact that two writes side by side along that axis leave such an array. -/

@[expose] public section

noncomputable section

namespace Cert.Pad

open Idealize.ShloMosaic

variable {α : Type}

/-- A vector of `n` elements followed by copies of `c`. -/
def pad1 {N : ℕ} (n : ℕ) (x : (⟨1, ![n]⟩ : Shape).Idx → α) (c : α) : (⟨1, ![N]⟩ : Shape).Idx → α :=
  fun y => if h : (y 0).val < n then x (ix1 ⟨(y 0).val, h⟩) else c

/-- A matrix of `n` columns followed by columns of copies of `c`. -/
def pad2 {M N : ℕ} (n : ℕ) (x : (⟨2, ![M, n]⟩ : Shape).Idx → α) (c : α) : (⟨2, ![M, N]⟩ : Shape).Idx → α :=
  fun y => if h : (y 1).val < n then x (ix2 (y 0) ⟨(y 1).val, h⟩) else c

/-- `n` square-matrix entries along the last axis, followed by the entry `t` of the first two coordinates. -/
def pad3 {L M N : ℕ} (n : ℕ) (x : (⟨3, ![L, M, n]⟩ : Shape).Idx → α) (t : Fin L → Fin M → α) :
    (⟨3, ![L, M, N]⟩ : Shape).Idx → α :=
  fun y => if h : (y 2).val < n then x (ix3 (y 0) (y 1) ⟨(y 2).val, h⟩) else t (y 0) (y 1)

variable {sig : RefSig} {κ : Kind} {sp : Space} {e : EltTy} {Val : EltTy → Type}

/-- Writing `x` into the first `n` elements and a constant into the other `k` leaves `x` padded with that constant. -/
theorem read_pad1 {N n k : ℕ} (v : View sig κ sp ⟨1, ![N]⟩ e) (f : v.ty.Contents Val)
    (i₁ : ∀ a, (![n] : Fin 1 → ℕ) a + (![k] : Fin 1 → ℕ) a ≤ (![N] : Fin 1 → ℕ) a)
    (i₀ : ∀ a, (![0] : Fin 1 → ℕ) a + (![n] : Fin 1 → ℕ) a ≤ (![N] : Fin 1 → ℕ) a)
    (w : (⟨1, ![k]⟩ : Shape).Idx → Val e) (x : (⟨1, ![n]⟩ : Shape).Idx → Val e) (c : Val e) (hw : ∀ j, w j = c) (hN : N = n + k) :
    v.read Val (v.writes Val f [⟨Rect.unit (s := ⟨1, ![N]⟩) ![n] ![k] i₁, w⟩, ⟨Rect.unit (s := ⟨1, ![N]⟩) ![0] ![n] i₀, x⟩])
      = pad1 n x c := by
  funext y
  have hy : (y 0).val < N := (y 0).isLt
  unfold pad1
  by_cases h : (y 0).val < n
  · rw [dif_pos h, View.read_writes_cons_unit_of_not_mem v f i₁ w _ y rfl 0 (Or.inl h)]
    exact View.read_writes_cons_unit_of_mem v f i₀ x _ y (ix1 ⟨(y 0).val, h⟩) rfl
      (Fin.forall_fin_one.mpr (Nat.zero_add _).symm)
  · rw [dif_neg h, ← hw (ix1 ⟨(y 0).val - n, by omega⟩)]
    exact View.read_writes_cons_unit_of_mem v f i₁ w _ y (ix1 ⟨(y 0).val - n, by omega⟩) rfl
      (Fin.forall_fin_one.mpr (by show (y 0).val = n + ((y 0).val - n); omega))

/-- The same for the columns of a matrix. -/
theorem read_pad2 {M N n k : ℕ} (v : View sig κ sp ⟨2, ![M, N]⟩ e) (f : v.ty.Contents Val)
    (i₁ : ∀ a, (![0, n] : Fin 2 → ℕ) a + (![M, k] : Fin 2 → ℕ) a ≤ (![M, N] : Fin 2 → ℕ) a)
    (i₀ : ∀ a, (![0, 0] : Fin 2 → ℕ) a + (![M, n] : Fin 2 → ℕ) a ≤ (![M, N] : Fin 2 → ℕ) a)
    (w : (⟨2, ![M, k]⟩ : Shape).Idx → Val e) (x : (⟨2, ![M, n]⟩ : Shape).Idx → Val e) (c : Val e) (hw : ∀ j, w j = c)
    (hN : N = n + k) :
    v.read Val (v.writes Val f
        [⟨Rect.unit (s := ⟨2, ![M, N]⟩) ![0, n] ![M, k] i₁, w⟩, ⟨Rect.unit (s := ⟨2, ![M, N]⟩) ![0, 0] ![M, n] i₀, x⟩])
      = pad2 n x c := by
  funext y
  have hy : (y 1).val < N := (y 1).isLt
  unfold pad2
  by_cases h : (y 1).val < n
  · rw [dif_pos h, View.read_writes_cons_unit_of_not_mem v f i₁ w _ y rfl 1 (Or.inl h)]
    exact View.read_writes_cons_unit_of_mem v f i₀ x _ y (ix2 (y 0) ⟨(y 1).val, h⟩) rfl
      (Fin.forall_fin_two.mpr ⟨(Nat.zero_add _).symm, (Nat.zero_add _).symm⟩)
  · rw [dif_neg h, ← hw (ix2 (y 0) ⟨(y 1).val - n, by omega⟩)]
    exact View.read_writes_cons_unit_of_mem v f i₁ w _ y (ix2 (y 0) ⟨(y 1).val - n, by omega⟩) rfl
      (Fin.forall_fin_two.mpr ⟨(Nat.zero_add _).symm, by show (y 1).val = n + ((y 1).val - n); omega⟩)

/-- The same along the last of three axes, one slice `t` behind the `n` slices of `x`. -/
theorem read_pad3 {L M N n : ℕ} (v : View sig κ sp ⟨3, ![L, M, N]⟩ e) (f : v.ty.Contents Val)
    (i₁ : ∀ a, (![0, 0, n] : Fin 3 → ℕ) a + (![L, M, 1] : Fin 3 → ℕ) a ≤ (![L, M, N] : Fin 3 → ℕ) a)
    (i₀ : ∀ a, (![0, 0, 0] : Fin 3 → ℕ) a + (![L, M, n] : Fin 3 → ℕ) a ≤ (![L, M, N] : Fin 3 → ℕ) a)
    (w : (⟨3, ![L, M, 1]⟩ : Shape).Idx → Val e) (x : (⟨3, ![L, M, n]⟩ : Shape).Idx → Val e) (t : Fin L → Fin M → Val e)
    (hw : ∀ a b, w (ix3 a b 0) = t a b) (hN : N = n + 1) :
    v.read Val (v.writes Val f
        [⟨Rect.unit (s := ⟨3, ![L, M, N]⟩) ![0, 0, n] ![L, M, 1] i₁, w⟩,
          ⟨Rect.unit (s := ⟨3, ![L, M, N]⟩) ![0, 0, 0] ![L, M, n] i₀, x⟩])
      = pad3 n x t := by
  funext y
  have hy : (y 2).val < N := (y 2).isLt
  have all (P : Fin 3 → Prop) (h0 : P 0) (h1 : P 1) (h2 : P 2) : ∀ a, P a := fun a => by fin_cases a <;> assumption
  unfold pad3
  by_cases h : (y 2).val < n
  · rw [dif_pos h, View.read_writes_cons_unit_of_not_mem v f i₁ w _ y rfl 2 (Or.inl h)]
    exact View.read_writes_cons_unit_of_mem v f i₀ x _ y (ix3 (y 0) (y 1) ⟨(y 2).val, h⟩) rfl
      (all _ (Nat.zero_add _).symm (Nat.zero_add _).symm (Nat.zero_add _).symm)
  · rw [dif_neg h]
    refine Eq.trans ?_ (hw (y 0) (y 1))
    exact View.read_writes_cons_unit_of_mem v f i₁ w _ y (ix3 (y 0) (y 1) 0) rfl
      (all _ (Nat.zero_add _).symm (Nat.zero_add _).symm (by show (y 2).val = n + 0; omega))

end Cert.Pad

end
-- ==== Proof.Body.lean ====
module

public import proofs.«01_k».proof.Proof.Gen.KernelIdeal.Frame
public import proofs.«01_k».proof.Proof.Gen.KernelIdeal.Skeleton
public import Idealize.ShloMosaic.Lib.Pipeline.FrameSuffixV
public import Idealize.ShloMosaic.Lib.Tactic
public import Idealize.ShloMosaic.Lib.Transfers
public import Idealize.ShloMosaic.Lib.Pipeline.Value
public import proofs.«01_k».proof.Proof.Pad

@[expose] public section

set_option maxRecDepth 16384

noncomputable section

namespace Cert.KernelIdeal.Pad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

/-- Core `c` holds the whole of `M`'s buffer, at contents `f`. -/
abbrev has (c : Dev nD) {sp : Space} {S : Shape} {e : EltTy} (M : Memref sig .tc sp S e)
    (f : Buf (Elt F) (M.view.loc (c : Thread nD τ))) : sProp 𝕄 :=
  M.view.loc (c : Thread nD τ) ↦{fullShare} f

/-- Core `c`'s DMA semaphore number `j` reads zero. -/
abbrev idle (c : Dev nD) (j : Nat) (h : j < 11 := by decide) : sProp 𝕄 :=
  semVal ((c : Thread nD τ), SemLoc.dma (⟨j, h⟩ : DmaSem sig)) 0

abbrev iSp : Memref sig .tc .hbm S32768 .i32 := Memref.whole main_arg0
abbrev iNa : Memref sig .tc .hbm S16 .i32 := Memref.whole main_arg1
abbrev iBi : Memref sig .tc .hbm S32768 .i32 := Memref.whole main_arg2
abbrev iCo : Memref sig .tc .hbm S3x32768 .f32 := Memref.whole main_v0
abbrev iCe : Memref sig .tc .hbm S3x3x16 .f32 := Memref.whole main_v1
abbrev oSp : Memref sig .tc .hbm S39322 .i32 := Memref.whole main_v2_0
abbrev oNa : Memref sig .tc .hbm S17 .i32 := Memref.whole main_v2_1
abbrev oBi : Memref sig .tc .hbm S39322 .i32 := Memref.whole main_v2_2
abbrev oCo : Memref sig .tc .hbm S3x39322 .f32 := Memref.whole main_v2_3
abbrev oCe : Memref sig .tc .hbm S3x3x17 .f32 := Memref.whole main_v2_4
abbrev oTa : Memref sig .tc .hbm S39322 .i8 := Memref.whole main_v2_5
abbrev sSp : Memref sig .tc .vmem S39322 .i32 := Memref.whole cc0_scratch0
abbrev sBi : Memref sig .tc .vmem S39322 .i32 := Memref.whole cc0_scratch1
abbrev sTa : Memref sig .tc .vmem S39322 .i8 := Memref.whole cc0_scratch2
abbrev sCo : Memref sig .tc .vmem S3x39322 .f32 := Memref.whole cc0_scratch3
abbrev sCe : Memref sig .tc .vmem S3x3x17 .f32 := Memref.whole cc0_scratch4
abbrev sNa : Memref sig .tc .vmem S17 .i32 := Memref.whole cc0_scratch5
abbrev sCei : Memref sig .tc .vmem S3x3x16 .f32 := Memref.whole cc0_scratch6
abbrev sNai : Memref sig .tc .vmem S16 .i32 := Memref.whole cc0_scratch7

/-! ## What the body leaves in each output -/

/-- The padded species: the given ones, then −1 everywhere. -/
def outSp (x : S32768.Idx → BitVec 32) : S39322.Idx → BitVec 32 := Cert.Pad.pad1 32768 x 4294967295#32
/-- The padded atom counts: the given ones, then 6554. -/
def outNa (x : S16.Idx → BitVec 32) : S17.Idx → BitVec 32 := Cert.Pad.pad1 16 x 6554#32
/-- The padded batch index: the given one, then 16 everywhere. -/
def outBi (x : S32768.Idx → BitVec 32) : S39322.Idx → BitVec 32 := Cert.Pad.pad1 32768 x 16#32
/-- The padded coordinates, one axis per row: the given ones, then zeros. -/
def outCo (x : S3x32768.Idx → F .f32) : S3x39322.Idx → F .f32 := Cert.Pad.pad2 32768 x (Scalar.ofBits .f32 0x00000000#32)
/-- The padded cells, the system on the last axis: the given ones, then the identity matrix. -/
def outCe (x : S3x3x16.Idx → F .f32) : S3x3x17.Idx → F .f32 := Cert.Pad.pad3 16 x fun a b => k0_pay9 (F := F) (ix3 a b 0)
/-- The mask of true atoms, one byte each: whether the padded species is positive. -/
def outTa (x : S32768.Idx → BitVec 32) : S39322.Idx → BitVec 8 := k0_pay5 (F := F) (outSp x)

/-- The two writes into the species scratch leave the padded species. -/
theorem left_sp (f : sSp.view.ty.Contents (Elt F)) (x : S32768.Idx → BitVec 32) :
    sSp.view.read (Elt F) (sSp.view.writes (Elt F) f
        [⟨Rect.unit (s := S39322) ![32768] S6554.size inb_S39322_S6554_32768, k0_pay4⟩,
          ⟨Rect.unit (s := S39322) ![0] S32768.size inb_S39322_S32768_0, x⟩]) = outSp x :=
  Cert.Pad.read_pad1 (k := 6554) sSp.view f inb_S39322_S6554_32768 inb_S39322_S32768_0 k0_pay4 x _ (fun _ => rfl) (by decide)

/-- The two writes into the batch index scratch leave the padded batch index. -/
theorem left_bi (f : sBi.view.ty.Contents (Elt F)) (x : S32768.Idx → BitVec 32) :
    sBi.view.read (Elt F) (sBi.view.writes (Elt F) f
        [⟨Rect.unit (s := S39322) ![32768] S6554.size inb_S39322_S6554_32768, k0_pay6⟩,
          ⟨Rect.unit (s := S39322) ![0] S32768.size inb_S39322_S32768_0, x⟩]) = outBi x :=
  Cert.Pad.read_pad1 (k := 6554) sBi.view f inb_S39322_S6554_32768 inb_S39322_S32768_0 k0_pay6 x _ (fun _ => rfl) (by decide)

/-- The two writes into the coordinates scratch leave the padded coordinates. -/
theorem left_co (f : sCo.view.ty.Contents (Elt F)) (x : S3x32768.Idx → F .f32) :
    sCo.view.read (Elt F) (sCo.view.writes (Elt F) f
        [⟨Rect.unit (s := S3x39322) ![0, 32768] S3x6554.size inb_S3x39322_S3x6554_0_32768, k0_pay7 (F := F)⟩,
          ⟨Rect.unit (s := S3x39322) ![0, 0] S3x32768.size inb_S3x39322_S3x32768_0_0, x⟩]) = outCo x :=
  Cert.Pad.read_pad2 (k := 6554) sCo.view f inb_S3x39322_S3x6554_0_32768 inb_S3x39322_S3x32768_0_0 (k0_pay7 (F := F)) x _
    (fun _ => rfl) (by decide)

/-- The two writes into the counts scratch leave the padded counts. -/
theorem left_na (f : sNa.view.ty.Contents (Elt F)) (x : S16.Idx → BitVec 32) :
    sNa.view.read (Elt F) (sNa.view.writes (Elt F) f
        [⟨Rect.unit (s := S17) ![16] S1.size inb_S17_S1_16, k0_pay3⟩,
          ⟨Rect.unit (s := S17) ![0] S16.size inb_S17_S16_0, k0_pay2 (F := F) x⟩]) = outNa x := by
  rw [show k0_pay2 (F := F) x = x from shapeCast_self x _]
  exact Cert.Pad.read_pad1 (k := 1) sNa.view f inb_S17_S1_16 inb_S17_S16_0 k0_pay3 x _ (fun _ => rfl) (by decide)

/-- The two writes into the cells scratch leave the padded cells. -/
theorem left_ce (f : sCe.view.ty.Contents (Elt F)) (x : S3x3x16.Idx → F .f32) :
    sCe.view.read (Elt F) (sCe.view.writes (Elt F) f
        [⟨Rect.unit (s := S3x3x17) ![0, 0, 16] S3x3x1.size inb_S3x3x17_S3x3x1_0_0_16, k0_pay1 (F := F) (k0_pay9 (F := F))⟩,
          ⟨Rect.unit (s := S3x3x17) ![0, 0, 0] S3x3x16.size inb_S3x3x17_S3x3x16_0_0_0, k0_pay8 (F := F) x⟩]) = outCe x := by
  rw [show k0_pay1 (F := F) (k0_pay9 (F := F)) = k0_pay9 (F := F) from shapeCast_self _ _,
    show k0_pay8 (F := F) x = x from shapeCast_self x _]
  exact Cert.Pad.read_pad3 sCe.view f inb_S3x3x17_S3x3x1_0_0_16 inb_S3x3x17_S3x3x16_0_0_0 (k0_pay9 (F := F)) x _
    (fun _ _ => rfl) (by decide)

/-- The counts scratch filled with `x` and loaded whole reads `x`. -/
theorem asRead_na (f x : S16.Idx → BitVec 32) :
    View.readAt (Elt F) sNai.view (Rect.unit (s := S16) ![0] S16.size inb_S16_S16_0).toLoadRect
      (View.write (Elt F) sNai.view f x Finset.univ) = x := by
  rw [View.write_whole_univ]
  exact Memref.readAt_unit_zero (Elt F) cc0_scratch7 (by decide) _ x

/-- The cells scratch filled with `x` and loaded whole reads `x`. -/
theorem asRead_ce (f x : S3x3x16.Idx → F .f32) :
    View.readAt (Elt F) sCei.view (Rect.unit (s := S3x3x16) ![0, 0, 0] S3x3x16.size inb_S3x3x16_S3x3x16_0_0_0).toLoadRect
      (View.write (Elt F) sCei.view f x Finset.univ) = x := by
  rw [View.write_whole_univ]
  exact Memref.readAt_unit_zero (Elt F) cc0_scratch6 (by decide) _ x

/-- The species scratch, once the padded species lie in it, loads whole as the padded species. -/
theorem asRead_sp (x : S32768.Idx → BitVec 32) :
    sSp.view.readCov (Val := Elt F)
        [⟨Rect.unit (s := S39322) ![32768] S6554.size inb_S39322_S6554_32768, k0_pay4⟩,
          ⟨Rect.unit (s := S39322) ![0] S32768.size inb_S39322_S32768_0, x⟩]
        (Rect.unit (s := S39322) ![0] S39322.size inb_S39322_S39322_0).toLoadRect = outSp x := by
  unfold View.readCov
  rw [View.readAt_eq_ld, left_sp]
  exact View.ld_unit_zero (by decide) _ _

/-- One write over the whole mask scratch leaves what it wrote. -/
theorem left_ta (f : sTa.view.ty.Contents (Elt F)) (w : S39322.Idx → BitVec 8) :
    sTa.view.read (Elt F) (sTa.view.writes (Elt F) f
        [⟨Rect.unit (s := S39322) ![0] S39322.size inb_S39322_S39322_0, w⟩]) = w :=
  funext fun y => View.read_writes_cons_unit_of_mem sTa.view f inb_S39322_S39322_0 w [] y y rfl
    (Fin.forall_fin_one.mpr (Nat.zero_add _).symm)

set_option maxHeartbeats 2000000 in
/-- The body's triple: from the five inputs whole, the six outputs and the eight scratch buffers at anything, the eleven cells at
    zero and nothing owed, the kernel runs to its return and hands back the inputs as they were, each output at its padded array,
    the scratch buffers at some contents, and the cells at zero. -/
theorem kernelRun (c : Dev nD)
    (f0 : Buf (Elt F) (iSp.view.loc (c : Thread nD τ))) (f1 : Buf (Elt F) (iNa.view.loc (c : Thread nD τ)))
    (f2 : Buf (Elt F) (iBi.view.loc (c : Thread nD τ))) (f3 : Buf (Elt F) (iCo.view.loc (c : Thread nD τ)))
    (f4 : Buf (Elt F) (iCe.view.loc (c : Thread nD τ)))
    (g0 : Buf (Elt F) (oSp.view.loc (c : Thread nD τ))) (g1 : Buf (Elt F) (oNa.view.loc (c : Thread nD τ)))
    (g2 : Buf (Elt F) (oBi.view.loc (c : Thread nD τ))) (g3 : Buf (Elt F) (oCo.view.loc (c : Thread nD τ)))
    (g4 : Buf (Elt F) (oCe.view.loc (c : Thread nD τ))) (g5 : Buf (Elt F) (oTa.view.loc (c : Thread nD τ)))
    (s0 : Buf (Elt F) (sSp.view.loc (c : Thread nD τ))) (s1 : Buf (Elt F) (sBi.view.loc (c : Thread nD τ)))
    (s2 : Buf (Elt F) (sTa.view.loc (c : Thread nD τ))) (s3 : Buf (Elt F) (sCo.view.loc (c : Thread nD τ)))
    (s4 : Buf (Elt F) (sCe.view.loc (c : Thread nD τ))) (s5 : Buf (Elt F) (sNa.view.loc (c : Thread nD τ)))
    (s6 : Buf (Elt F) (sCei.view.loc (c : Thread nD τ))) (s7 : Buf (Elt F) (sNai.view.loc (c : Thread nD τ)))
    (W : Waits sig Unit) (K : PUnit → sProp 𝕄) :
    iprop(has c iSp f0 ∗ has c iNa f1 ∗ has c iBi f2 ∗ has c iCo f3 ∗ has c iCe f4
        ∗ has c oSp g0 ∗ has c oNa g1 ∗ has c oBi g2 ∗ has c oCo g3 ∗ has c oCe g4 ∗ has c oTa g5
        ∗ has c sSp s0 ∗ has c sBi s1 ∗ has c sTa s2 ∗ has c sCo s3 ∗ has c sCe s4 ∗ has c sNa s5 ∗ has c sCei s6 ∗ has c sNai s7
        ∗ idle c 0 ∗ idle c 1 ∗ idle c 2 ∗ idle c 3 ∗ idle c 4 ∗ idle c 5 ∗ idle c 6 ∗ idle c 7 ∗ idle c 8 ∗ idle c 9 ∗ idle c 10
        ∗ owes (c : Thread nD τ) 0 W
        ∗ (iprop(has c iSp f0 ∗ has c iNa f1 ∗ has c iBi f2 ∗ has c iCo f3 ∗ has c iCe f4
            ∗ has c oSp (outSp f0) ∗ has c oNa (outNa f1) ∗ has c oBi (outBi f2) ∗ has c oCo (outCo f3) ∗ has c oCe (outCe f4)
            ∗ has c oTa (outTa (F := F) f0)
            ∗ (∃ f, has c sSp f) ∗ (∃ f, has c sBi f) ∗ (∃ f, has c sTa f) ∗ (∃ f, has c sCo f) ∗ (∃ f, has c sCe f)
            ∗ (∃ f, has c sNa f) ∗ (∃ f, has c sCei f) ∗ (∃ f, has c sNai f)
            ∗ idle c 0 ∗ idle c 1 ∗ idle c 2 ∗ idle c 3 ∗ idle c 4 ∗ idle c 5 ∗ idle c 6 ∗ idle c 7 ∗ idle c 8 ∗ idle c 9 ∗ idle c 10
            ∗ ∃ W', owes (c : Thread nD τ) 0 W') -∗ K ⟨⟩))
      ⊢ wp frame (wpE (defs₀ (F := F)) Variants.none c none) Set.univ
          (cc0__pad_kernel iSp (Memref.isWhole_whole _) iNa (Memref.isWhole_whole _) iBi (Memref.isWhole_whole _)
            iCo (Memref.isWhole_whole _) iCe (Memref.isWhole_whole _) oSp (Memref.isWhole_whole _) oNa (Memref.isWhole_whole _)
            oBi (Memref.isWhole_whole _) oCo (Memref.isWhole_whole _) oCe (Memref.isWhole_whole _) oTa (Memref.isWhole_whole _)
            sSp (Memref.isWhole_whole _) sBi (Memref.isWhole_whole _) sTa (Memref.isWhole_whole _) sCo (Memref.isWhole_whole _)
            sCe (Memref.isWhole_whole _) sNa (Memref.isWhole_whole _) sCei (Memref.isWhole_whole _) sNai (Memref.isWhole_whole _)
            cc0_scratch8) K := by
  simp only [cc0__pad_kernel_eq_skeleton]; unfold cc0__pad_kernel_skel
  iintro ⟨A0, A1, A2, A3, A4, O0, O1, O2, O3, O4, O5, S0, S1, S2, S3, S4, S5, S6, S7, Q0, Q1, Q2, Q3, Q4, Q5, Q6, Q7, Q8, Q9, Q10, HW, Hk⟩
  sl_exec
  sl_step
  have e0 : View.write (Elt F) oSp.view g0 (kernelRun.sl.dma5 c f0 s0) Finset.univ = outSp f0 :=
    (View.write_whole_univ ..).trans (left_sp s0 _)
  have e1 : View.write (Elt F) oNa.view g1 (kernelRun.sl.dma19 c f1 s5 s7) Finset.univ = outNa f1 :=
    (View.write_whole_univ ..).trans ((left_na s5 _).trans (congrArg outNa (asRead_na s7 f1)))
  have e2 : View.write (Elt F) oBi.view g2 (kernelRun.sl.dma7 c f2 s1) Finset.univ = outBi f2 :=
    (View.write_whole_univ ..).trans (left_bi s1 _)
  have e3 : View.write (Elt F) oCo.view g3 (kernelRun.sl.dma9 c f3 s3) Finset.univ = outCo f3 :=
    (View.write_whole_univ ..).trans (left_co s3 _)
  have e4 : View.write (Elt F) oCe.view g4 (kernelRun.sl.dma14 c f4 s4 s6) Finset.univ = outCe f4 :=
    (View.write_whole_univ ..).trans ((left_ce s4 _).trans (congrArg outCe (asRead_ce s6 f4)))
  have e5 : View.write (Elt F) oTa.view g5 (kernelRun.sl.dma5_1 c f0 s2) Finset.univ = outTa (F := F) f0 :=
    (View.write_whole_univ ..).trans ((left_ta s2 _).trans (congrArg (k0_pay5 (F := F)) (asRead_sp f0)))
  rw [e0, e1, e2, e3, e4, e5]
  iapply Hk
  isplitl [A0]; · iexact A0
  isplitl [A1]; · iexact A1
  isplitl [A2]; · iexact A2
  isplitl [A3]; · iexact A3
  isplitl [A4]; · iexact A4
  isplitl [O0]; · iexact O0
  isplitl [O1]; · iexact O1
  isplitl [O2]; · iexact O2
  isplitl [O3]; · iexact O3
  isplitl [O4]; · iexact O4
  isplitl [O5]; · iexact O5
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  iexists _; iexact HW

end Cert.KernelIdeal.Pad

end
-- ==== Proof.Launch.lean ====
module

public import proofs.«01_k».proof.Proof.Body

/-! The launch: the body's triple carried through the region and the host lines around it. -/

@[expose] public section

set_option maxRecDepth 16384

noncomputable section

namespace Cert.KernelIdeal.Pad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-- The kernel's own semaphores, the eleven DMA cells. -/
abbrev cells : Fin 11 → SemLoc sig := fun j => SemLoc.dma (j : DmaSem sig)
theorem cellFacts : Pipeline.OwnSemFacts cfg0.spec cells := by decide

/-- The buffers the kernel reads where they lie. -/
def readBufs : Finset (Ref sig .tc) := {main_arg0, main_arg1, main_arg2, main_v0, main_v1}
/-- The buffers it fills. -/
def filledBufs : Finset (Ref sig .tc) := {main_v2_0, main_v2_1, main_v2_2, main_v2_3, main_v2_4, main_v2_5}
theorem readBufs_sub : readBufs ⊆ Pipeline.restRefs sig cfg0.spec := by decide
theorem filledBufs_sub : filledBufs ⊆ Pipeline.restRefs sig cfg0.spec \ readBufs := by decide

/-- The contents of every buffer when the region ends: the six filled ones at their padded arrays, the others as it found them. -/
def V' (c : Dev nD) : (b : Ref sig .tc) → Buf (Elt F) ((c : Thread nD τ).loc b) :=
  Function.update (Function.update (Function.update (Function.update (Function.update (Function.update (V m c)
    main_v2_0 (outSp (V m c main_arg0))) main_v2_1 (outNa (V m c main_arg1))) main_v2_2 (outBi (V m c main_arg2)))
    main_v2_3 (outCo (V m c main_v0))) main_v2_4 (outCe (V m c main_v1))) main_v2_5 (outTa (F := F) (V m c main_arg0))

theorem V'_sp (c : Dev nD) : V' m c main_v2_0 = outSp (V m c main_arg0) := by
  unfold V'; iterate 5 rw [Function.update_of_ne (by decide)]
  exact Function.update_self ..
theorem V'_na (c : Dev nD) : V' m c main_v2_1 = outNa (V m c main_arg1) := by
  unfold V'; iterate 4 rw [Function.update_of_ne (by decide)]
  exact Function.update_self ..
theorem V'_bi (c : Dev nD) : V' m c main_v2_2 = outBi (V m c main_arg2) := by
  unfold V'; iterate 3 rw [Function.update_of_ne (by decide)]
  exact Function.update_self ..
theorem V'_co (c : Dev nD) : V' m c main_v2_3 = outCo (V m c main_v0) := by
  unfold V'; iterate 2 rw [Function.update_of_ne (by decide)]
  exact Function.update_self ..
theorem V'_ce (c : Dev nD) : V' m c main_v2_4 = outCe (V m c main_v1) := by
  unfold V'; rw [Function.update_of_ne (by decide)]
  exact Function.update_self ..
theorem V'_ta (c : Dev nD) : V' m c main_v2_5 = outTa (F := F) (V m c main_arg0) := Function.update_self ..

/-- The eleven cells at zero, one by one. -/
theorem cells_eq (c : Dev nD) :
    (Pipeline.ownSems0 (Ix := Unit) (Name := ℕ) (U := Pipeline.UD sig nD τ) (Lvl := ℕ) (Val := Elt F) (τ := τ) cells c : sProp 𝕄)
      = iprop(idle c 0 ∗ idle c 1 ∗ idle c 2 ∗ idle c 3 ∗ idle c 4 ∗ idle c 5 ∗ idle c 6 ∗ idle c 7 ∗ idle c 8 ∗ idle c 9 ∗ idle c 10) := by
  rw [Pipeline.ownSems0_eq_of_list c cells [0, 1, 2, 3, 4, 5, 6, 7, 8, 9, 10] (by decide) (by decide)]; rfl

/-- The read buffers, one by one. -/
theorem readBufs_eq (c : Dev nD) (X : (b : Ref sig .tc) → Buf (Elt F) ((c : Thread nD τ).loc b)) :
    (bigSep readBufs (fun b => ((c : Thread nD τ).loc b) ↦{fullShare} X b) : sProp 𝕄)
      = iprop(has c iSp (X main_arg0) ∗ has c iNa (X main_arg1) ∗ has c iBi (X main_arg2) ∗ has c iCo (X main_v0) ∗ has c iCe (X main_v1)) := by
  rw [BI.bigSep_eq_bigSepL_of_eq [main_arg0, main_arg1, main_arg2, main_v0, main_v1] (by decide) (by decide)]; rfl

/-- The filled buffers, one by one. -/
theorem filledBufs_eq (c : Dev nD) (X : (b : Ref sig .tc) → Buf (Elt F) ((c : Thread nD τ).loc b)) :
    (bigSep filledBufs (fun b => ((c : Thread nD τ).loc b) ↦{fullShare} X b) : sProp 𝕄)
      = iprop(has c oSp (X main_v2_0) ∗ has c oNa (X main_v2_1) ∗ has c oBi (X main_v2_2) ∗ has c oCo (X main_v2_3)
          ∗ has c oCe (X main_v2_4) ∗ has c oTa (X main_v2_5)) := by
  rw [BI.bigSep_eq_bigSepL_of_eq [main_v2_0, main_v2_1, main_v2_2, main_v2_3, main_v2_4, main_v2_5] (by decide) (by decide)]; rfl

/-- What the body holds of the memory, the filled buffers at `G`. -/
def held (G : (c : Dev nD) → (b : Ref sig .tc) → Buf (Elt F) ((c : Thread nD τ).loc b)) (c : Dev nD) : sProp 𝕄 :=
  Pipeline.ΦDRV cells cfg0.spec readBufs filledBufs (V m) G c

/-- The same, conjunct by conjunct. -/
theorem held_eq (G : (c : Dev nD) → (b : Ref sig .tc) → Buf (Elt F) ((c : Thread nD τ).loc b)) (c : Dev nD) :
    held m G c = iprop(
      iprop((∃ f, has c sSp f) ∗ (∃ f, has c sBi f) ∗ (∃ f, has c sTa f) ∗ (∃ f, has c sCo f) ∗ (∃ f, has c sCe f)
        ∗ (∃ f, has c sNa f) ∗ (∃ f, has c sCei f) ∗ (∃ f, has c sNai f))
      ∗ iprop(idle c 0 ∗ idle c 1 ∗ idle c 2 ∗ idle c 3 ∗ idle c 4 ∗ idle c 5 ∗ idle c 6 ∗ idle c 7 ∗ idle c 8 ∗ idle c 9 ∗ idle c 10)
      ∗ iprop(has c iSp (V m c main_arg0) ∗ has c iNa (V m c main_arg1) ∗ has c iBi (V m c main_arg2) ∗ has c iCo (V m c main_v0)
        ∗ has c iCe (V m c main_v1))
      ∗ iprop(has c oSp (G c main_v2_0) ∗ has c oNa (G c main_v2_1) ∗ has c oBi (G c main_v2_2) ∗ has c oCo (G c main_v2_3)
        ∗ has c oCe (G c main_v2_4) ∗ has c oTa (G c main_v2_5))) := by
  unfold held Pipeline.ΦDRV
  rw [scopedRest0_eq, cells_eq, readBufs_eq, filledBufs_eq]

/-- The proof data on core `c`: no window, nothing owed; before the one point the filled buffers as the region finds them, after
    it at their padded arrays. -/
def dats (_ : Fin 1) (c : Dev nD) : Dat τ (Elt F) Unit ℕ (Pipeline.UD sig nD τ) ℕ cfg0 c where
  A w := w.elim0
  after w := w.elim0
  Φ t := if t.val = 0 then held m (V m) c else held m (V' m) c
  q _ := fullShare
  owed _ := 0

/-- The body at the point: from the filled buffers as found to the filled buffers padded. -/
theorem sound_body (c : Dev nD) (t : Fin cfg0.N) :
    iprop(held m (V m) c ∗ (dats m 0 c).owesAt () t.castSucc)
      ⊢ wp frame (wpE (defs₀ (F := F)) Variants.none c none) Set.univ (bodyAt0 t)
          (fun _ => iprop(held m (V' m) c ∗ (dats m 0 c).owesAt () t.succ)) := by
  unfold bodyAt0
  rw [held_eq, held_eq, V'_sp, V'_na, V'_bi, V'_co, V'_ce, V'_ta]
  unfold Dat.owesAt Pipeline.owesWithin
  rw [show (dats m 0 c).owed t.castSucc = 0 from rfl, show (dats m 0 c).owed t.succ = 0 from rfl]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩⟩,
    ⟨Q0, Q1, Q2, Q3, Q4, Q5, Q6, Q7, Q8, Q9, Q10⟩, ⟨A0, A1, A2, A3, A4⟩, ⟨O0, O1, O2, O3, O4, O5⟩⟩, ⟨%W, %hW, HO⟩⟩
  iapply (kernelRun c (V m c main_arg0) (V m c main_arg1) (V m c main_arg2) (V m c main_v0) (V m c main_v1)
    (V m c main_v2_0) (V m c main_v2_1) (V m c main_v2_2) (V m c main_v2_3) (V m c main_v2_4) (V m c main_v2_5)
    s0 s1 s2 s3 s4 s5 s6 s7 W _)
  iframe
  iintro ⟨A0, A1, A2, A3, A4, O0, O1, O2, O3, O4, O5, S0, S1, S2, S3, S4, S5, S6, S7, Q0, Q1, Q2, Q3, Q4, Q5, Q6, Q7, Q8, Q9, Q10, ⟨%W', HO⟩⟩
  iframe
  iexists W'; isplitr; · ipureintro; exact fun _ _ => Or.inl trivial
  iexact HO

/-- The body table's row at the point is the body as called there. -/
theorem defs₀_row (t : Fin cfg0.N) : defs₀ (F := F) .tc cfg0.body (cfg0.bodyArgs t (cfg0.slots t)) = bodyAt0 t := by
  unfold defs₀; rw [Defs.onTc_tc]

/-- There is no window, so what is asked of every window is nothing. -/
theorem noWindow (Φ : Fin cfg0.W → sProp 𝕄) : bigSep Finset.univ Φ = iprop(emp) := by
  rw [BI.bigSep_eq_bigSepL_of_eq [] (by decide) (by decide)]; rfl

/-- The body obligation: the triple, the windows' part empty. -/
theorem body_obligation (c : Dev nD) : BodyObligation (dats (F := F) m 0 c) (defs₀ (F := F)) Variants.none () Set.univ := fun t => by
  have h0 : (dats (F := F) m 0 c).Φ t.castSucc = held m (V m) c := if_pos (Nat.lt_one_iff.mp (lt_of_lt_of_eq t.isLt N_0))
  have h1 : (dats (F := F) m 0 c).Φ t.succ = held m (V' m) c := by
    show (if t.val + 1 = 0 then held m (V m) c else held m (V' m) c) = held m (V' m) c
    exact if_neg (Nat.succ_ne_zero t.val)
  rw [h0, h1, defs₀_row, noWindow, noWindow]
  refine triple_restated (sound_body m c t) rfl ?_ fun _ => ?_
  · iintro ⟨A, B, -⟩; iframe
  · iintro ⟨A, B⟩; iframe

/-- @main up to the region and from it on. -/
theorem hmainD (𝒱₀ : Variants) :
    Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The contents of core `c`'s buffers when the region has ended: the filled ones padded, the others as the region found them. -/
def between (c : Dev nD) : Valuation τ sig (Elt F) :=
  Pipeline.withArrays cfg0.spec c (Pipeline.withR (V0 m c) filledBufs c (V' m c)) fun w => w.elim0

/-- The contents of core `c`'s buffers when @main returns: the host lines after the region run on those. -/
def final (c : Dev nD) : Valuation τ sig (Elt F) :=
  StableHlo.after ([hostOps1] : List (List (HloOp τ sig (Elt F)))).flatten (between m c)

-- the launch theorem's implicit arguments are found by unifying its conclusion with this statement, which unifies only
-- when unification may unfold plain definitions in a metavariable's type
set_option backward.isDefEq.respectTransparency.types false in
/-- From any memory with zero counters: every weakly fair execution of @main terminates, with every unscoped buffer at its
    `final` contents and every semaphore counter at zero. -/
theorem run_main :
    θ_run defs (onTc (τ := τ) (main (F := F))) (s₀ m ρ)
      (fun r => (∀ c : Dev nD, ∀ b ∈ Pipeline.restRefs sig cfg0.spec,
        r.2.mem ((c : Thread nD τ).loc b) = final m c (Proc.devRef .tc b)) ∧ r.2.sem = fun _ => 0) :=
  Pipeline.θ_run_frame_dmaR_aroundV (Q' := _) cfgs (dats m) (0 : Fin 1) launch0 cells defs₀ Variants.none cellFacts readBufs filledBufs
    readBufs_sub filledBufs_sub m ρ main (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := V' m) (hmain := hmainD m Variants.none) (hA := fun _ w => w.elim0)
    (hin := fun _ => .rfl) (hout := fun _ => .rfl)
    (hQ' := fun r h => ⟨fun c b hb => ((h.1 c).2 b hb).trans (congrArg (fun X => StableHlo.after ([hostOps1] : List (List (HloOp τ sig (Elt F)))).flatten
        (Pipeline.withArrays cfg0.spec c (Pipeline.withR (V0 m c) filledBufs c (V' m c)) X) (Proc.devRef .tc b)) (funext fun w => w.elim0)), h.2⟩)

end Cert.KernelIdeal.Pad

end
-- ==== Proof.Run.lean ====
module

public import proofs.«01_k».proof.Proof.Launch
public import Idealize.ShloMosaic.Lib.StableHlo.Run

/-! The run of @main, its results read back: each is an operation on the padded arrays of the arguments. -/

@[expose] public section

set_option maxRecDepth 16384

noncomputable section

namespace Cert.KernelIdeal.Pad

open Cert.KernelIdeal Cert.KernelIdeal.Gen
open Idealize.ShloMosaic Idealize.ShloMosaic.TcCoe
open Idealize.SL.Sem

variable {F : FTy → Type} [FloatOps F] [∀ e, Nonempty (Elt F e)]
variable (m : (ℓ : Loc nD τ sig) → Buf (Elt F) ℓ) (ρ : Dev nD → PrngReg)

/-- A filled buffer holds its padded array after the region. -/
theorem between_filled (c : Dev nD) (b : Ref sig .tc) (hb : b ∈ filledBufs) :
    between m c (Proc.devRef .tc b) = V' m c b := by
  unfold between
  rw [Pipeline.withArrays_of_ne _ _ _ _ _ fun w => w.elim0, Pipeline.withR_of_mem _ _ _ _ _ hb]

/-- Any other buffer holds after the region what it held before it. -/
theorem between_other (c : Dev nD) (b : Ref sig .tc) (hb : b ∉ filledBufs) :
    between m c (Proc.devRef .tc b) = V m c b := by
  unfold between
  rw [Pipeline.withArrays_of_ne _ _ _ _ _ fun w => w.elim0, Pipeline.withR_of_not_mem _ _ _ _ _ hb]

/-- The coordinates as the region finds them: transposed, one axis per row. -/
theorem V_co (c : Dev nD) : V m c main_v0 = transpose S3x32768 [1, 0] (m ((c : Thread nD τ).loc main_arg3)) transposes_S32768x3_S3x32768_1_0 := by
  simp only [V, V0, hostOps0, List.flatten_cons, List.flatten_nil, List.append_nil]
  after_results

/-- The cells as the region finds them: the system moved to the last axis. -/
theorem V_ce (c : Dev nD) : V m c main_v1 = transpose S3x3x16 [1, 2, 0] (m ((c : Thread nD τ).loc main_arg4)) transposes_S16x3x3_S3x3x16_1_2_0 := by
  simp only [V, V0, hostOps0, List.flatten_cons, List.flatten_nil, List.append_nil]
  after_results

/-- The first result is the padded species. -/
theorem final_sp (c : Dev nD) : final m c (Proc.devRef .tc main_v2_0) = outSp (m ((c : Thread nD τ).loc main_arg0)) := by
  have h : final m c (Proc.devRef .tc main_v2_0) = between m c (Proc.devRef .tc main_v2_0) := by
    simp only [final, hostOps1, List.flatten_cons, List.flatten_nil, List.append_nil]; after_results
  rw [h, between_filled m c _ (by decide), V'_sp, V_main_arg0]
/-- The second is the padded atom counts. -/
theorem final_na (c : Dev nD) : final m c (Proc.devRef .tc main_v2_1) = outNa (m ((c : Thread nD τ).loc main_arg1)) := by
  have h : final m c (Proc.devRef .tc main_v2_1) = between m c (Proc.devRef .tc main_v2_1) := by
    simp only [final, hostOps1, List.flatten_cons, List.flatten_nil, List.append_nil]; after_results
  rw [h, between_filled m c _ (by decide), V'_na, V_main_arg1]
/-- The third is the padded batch index. -/
theorem final_bi (c : Dev nD) : final m c (Proc.devRef .tc main_v2_2) = outBi (m ((c : Thread nD τ).loc main_arg2)) := by
  have h : final m c (Proc.devRef .tc main_v2_2) = between m c (Proc.devRef .tc main_v2_2) := by
    simp only [final, hostOps1, List.flatten_cons, List.flatten_nil, List.append_nil]; after_results
  rw [h, between_filled m c _ (by decide), V'_bi, V_main_arg2]
/-- The fourth is the padded coordinates, transposed back to one atom per row. -/
theorem final_co (c : Dev nD) : final m c (Proc.devRef .tc main_v10)
    = transpose S39322x3 [1, 0] (outCo (transpose S3x32768 [1, 0] (m ((c : Thread nD τ).loc main_arg3)) transposes_S32768x3_S3x32768_1_0))
        transposes_S3x39322_S39322x3_1_0 := by
  have h : final m c (Proc.devRef .tc main_v10)
      = transpose S39322x3 [1, 0] (between m c (Proc.devRef .tc main_v2_3)) transposes_S3x39322_S39322x3_1_0 := by
    simp only [final, hostOps1, List.flatten_cons, List.flatten_nil, List.append_nil]; after_results
  rw [h, between_filled m c _ (by decide), V'_co, V_co]
/-- The fifth is the padded cells, the system moved back to the first axis. -/
theorem final_ce (c : Dev nD) : final m c (Proc.devRef .tc main_v11)
    = transpose S17x3x3 [2, 0, 1] (outCe (transpose S3x3x16 [1, 2, 0] (m ((c : Thread nD τ).loc main_arg4)) transposes_S16x3x3_S3x3x16_1_2_0))
        transposes_S3x3x17_S17x3x3_2_0_1 := by
  have h : final m c (Proc.devRef .tc main_v11)
      = transpose S17x3x3 [2, 0, 1] (between m c (Proc.devRef .tc main_v2_4)) transposes_S3x3x17_S17x3x3_2_0_1 := by
    simp only [final, hostOps1, List.flatten_cons, List.flatten_nil, List.append_nil]; after_results
  rw [h, between_filled m c _ (by decide), V'_ce, V_ce]
/-- The sixth is the mask of true atoms, read back from its bytes. -/
theorem final_ta (c : Dev nD) : final m c (Proc.devRef .tc main_v6)
    = cmpi .ne (outTa (F := F) (m ((c : Thread nD τ).loc main_arg0))) (broadcastInDim S39322 ![] bcast_S_S39322 (constantI S_ 8 0#8)) := by
  have h : final m c (Proc.devRef .tc main_v6)
      = cmpi .ne (between m c (Proc.devRef .tc main_v2_5)) (broadcastInDim S39322 ![] bcast_S_S39322 (constantI S_ 8 0#8)) := by
    simp only [final, hostOps1, List.flatten_cons, List.flatten_nil, List.append_nil]; after_results; rfl
  rw [h, between_filled m c _ (by decide), V'_ta, V_main_arg0]
/-- The seventh is the mask of true systems: all but the last. -/
theorem final_ts (c : Dev nD) : final m c (Proc.devRef .tc main_v9)
    = cmpi .slt (iotaInDim S17 32 0) (broadcastInDim S17 ![] bcast_S_S17 (constantI S_ 32 16#32)) := by
  simp only [final, hostOps1, List.flatten_cons, List.flatten_nil, List.append_nil]; after_results

/-- A buffer that no line after the region writes and the kernel does not fill ends as the region found it. -/
theorem final_arg (c : Dev nD) (b : Ref sig .tc) (hb : b ∈ ({main_arg0, main_arg1, main_arg2, main_arg3, main_arg4} : Finset (Ref sig .tc))) :
    final m c (Proc.devRef .tc b) = m ((c : Thread nD τ).loc b) := by
  simp only [Finset.mem_insert, Finset.mem_singleton] at hb
  have h : final m c (Proc.devRef .tc b) = between m c (Proc.devRef .tc b) := by
    simp only [final, hostOps1, List.flatten_cons, List.flatten_nil, List.append_nil]
    rcases hb with rfl | rfl | rfl | rfl | rfl <;> after_results
  rw [h, between_other m c b (by rcases hb with rfl | rfl | rfl | rfl | rfl <;> decide)]
  rcases hb with rfl | rfl | rfl | rfl | rfl
  · exact V_main_arg0 m c
  · exact V_main_arg1 m c
  · exact V_main_arg2 m c
  · exact V_main_arg3 m c
  · exact V_main_arg4 m c

/-- The run of @main, from any memory with zero counters: it terminates; the results are the padded arrays of the arguments (the
    coordinates and the cells transposed back), the mask of true atoms and the mask of true systems; the arguments are as they were;
    every semaphore counter is at zero. -/
theorem run :
    θ_run defs (onTc (τ := τ) (main (F := F))) ⟨m, fun _ => 0, ρ⟩ (fun r => (∀ c : Dev nD,
      (r.2.mem ((c.tc : Thread nD τ).loc main_v2_0) = outSp (m ((c.tc : Thread nD τ).loc main_arg0))
      ∧ r.2.mem ((c.tc : Thread nD τ).loc main_v2_1) = outNa (m ((c.tc : Thread nD τ).loc main_arg1))
      ∧ r.2.mem ((c.tc : Thread nD τ).loc main_v2_2) = outBi (m ((c.tc : Thread nD τ).loc main_arg2))
      ∧ r.2.mem ((c.tc : Thread nD τ).loc main_v10) = transpose S39322x3 [1, 0] (outCo (transpose S3x32768 [1, 0] (m ((c.tc : Thread nD τ).loc main_arg3)) transposes_S32768x3_S3x32768_1_0)) transposes_S3x39322_S39322x3_1_0
      ∧ r.2.mem ((c.tc : Thread nD τ).loc main_v11) = transpose S17x3x3 [2, 0, 1] (outCe (transpose S3x3x16 [1, 2, 0] (m ((c.tc : Thread nD τ).loc main_arg4)) transposes_S16x3x3_S3x3x16_1_2_0)) transposes_S3x3x17_S17x3x3_2_0_1
      ∧ r.2.mem ((c.tc : Thread nD τ).loc main_v6) = cmpi .ne (outTa (F := F) (m ((c.tc : Thread nD τ).loc main_arg0))) (broadcastInDim S39322 ![] bcast_S_S39322 (constantI S_ 8 0#8))
      ∧ r.2.mem ((c.tc : Thread nD τ).loc main_v9) = cmpi .slt (iotaInDim S17 32 0) (broadcastInDim S17 ![] bcast_S_S17 (constantI S_ 32 16#32)))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)))
      ∧ r.2.sem = fun _ => 0) :=
  (θ_run defs _ _).mono (fun r h => ⟨fun c =>
    have at' : ∀ b ∈ Pipeline.restRefs sig cfg0.spec, r.2.mem ((c : Thread nD τ).loc b) = final m c (Proc.devRef .tc b) := h.1 c
    have arg : ∀ b ∈ Pipeline.restRefs sig cfg0.spec, b ∈ ({main_arg0, main_arg1, main_arg2, main_arg3, main_arg4} : Finset (Ref sig .tc)) →
        r.2.mem ((c : Thread nD τ).loc b) = m ((c : Thread nD τ).loc b) := fun b hb ha => (h.1 c b hb).trans (final_arg m c b ha)
    ⟨⟨(at' main_v2_0 (by decide)).trans (final_sp m c), (at' main_v2_1 (by decide)).trans (final_na m c), (at' main_v2_2 (by decide)).trans (final_bi m c),
      (at' main_v10 (by decide)).trans (final_co m c), (at' main_v11 (by decide)).trans (final_ce m c), (at' main_v6 (by decide)).trans (final_ta m c),
      (at' main_v9 (by decide)).trans (final_ts m c)⟩,
     ⟨arg main_arg0 (by decide) (by decide), arg main_arg1 (by decide) (by decide), arg main_arg2 (by decide) (by decide), arg main_arg3 (by decide) (by decide), arg main_arg4 (by decide) (by decide)⟩⟩, h.2⟩) (run_main m ρ)

end Cert.KernelIdeal.Pad

end
-- ==== Proof.Values.lean ====
module

public import proofs.«01_k».proof.Proof.Body
public import proofs.«01_k».proof.Proof.Gen.ReferenceIdeal

/-! The reference's seven results are the kernel's: a concatenation with a constant is a padded array, the transposes around the
    padded coordinates and cells cancel, and a mask read back from its bytes is the mask. -/

@[expose] public section

noncomputable section

namespace Cert.Pad

open Idealize.ShloMosaic

variable {α : Type}

/-- A vector followed by a piece that is `c` throughout is the vector padded with `c`. -/
theorem concatenate_eq_pad1 {N n k : ℕ} (h : Shape.Concatenates [⟨1, ![n]⟩, ⟨1, ![k]⟩] ⟨1, ![N]⟩ 0)
    (x : (⟨1, ![n]⟩ : Shape).Idx → α) (w : (⟨1, ![k]⟩ : Shape).Idx → α) (c : α) (hw : ∀ j, w j = c) :
    concatenate ⟨1, ![N]⟩ 0 [⟨⟨1, ![n]⟩, x⟩, ⟨⟨1, ![k]⟩, w⟩] h = pad1 n x c := by
  funext y
  rw [concatenate_pair_apply]
  unfold pad1
  by_cases hy : (y 0).val < n
  · refine (dif_pos hy).trans ?_
    refine Eq.trans ?_ (dif_pos hy).symm
    exact congrArg x (funext (Fin.forall_fin_one.mpr rfl))
  · refine (dif_neg hy).trans ((hw _).trans ?_)
    refine Eq.trans ?_ (dif_neg hy).symm
    rfl

/-- Rows followed by rows that are `c` throughout: transposed, padded by columns of `c` and transposed back. -/
theorem concatenate_eq_pad2 {M N n k : ℕ} (h : Shape.Concatenates [⟨2, ![n, M]⟩, ⟨2, ![k, M]⟩] ⟨2, ![N, M]⟩ 0)
    (h₁ : (⟨2, ![n, M]⟩ : Shape).Transposes [1, 0] ⟨2, ![M, n]⟩) (h₂ : (⟨2, ![M, N]⟩ : Shape).Transposes [1, 0] ⟨2, ![N, M]⟩)
    (x : (⟨2, ![n, M]⟩ : Shape).Idx → α) (w : (⟨2, ![k, M]⟩ : Shape).Idx → α) (c : α) (hw : ∀ j, w j = c) :
    concatenate ⟨2, ![N, M]⟩ 0 [⟨⟨2, ![n, M]⟩, x⟩, ⟨⟨2, ![k, M]⟩, w⟩] h
      = transpose ⟨2, ![N, M]⟩ [1, 0] (pad2 n (transpose ⟨2, ![M, n]⟩ [1, 0] x h₁) c : (⟨2, ![M, N]⟩ : Shape).Idx → α) h₂ := by
  funext y
  pointwise [pad2]
  by_cases hy : (y 0).val < n
  · refine (dif_pos hy).trans ?_
    refine Eq.trans ?_ (dif_pos hy).symm
    exact congrArg x (funext (Fin.forall_fin_two.mpr ⟨rfl, rfl⟩))
  · refine (dif_neg hy).trans ((hw _).trans ?_)
    refine Eq.trans ?_ (dif_neg hy).symm
    rfl

/-- Matrices followed by one more, `t`: the matrices moved to the last axis, `t` put behind them, and the axis moved back. -/
theorem concatenate_eq_pad3 {L M N n : ℕ} (h : Shape.Concatenates [⟨3, ![n, L, M]⟩, ⟨3, ![1, L, M]⟩] ⟨3, ![N, L, M]⟩ 0)
    (h₁ : (⟨3, ![n, L, M]⟩ : Shape).Transposes [1, 2, 0] ⟨3, ![L, M, n]⟩)
    (h₂ : (⟨3, ![L, M, N]⟩ : Shape).Transposes [2, 0, 1] ⟨3, ![N, L, M]⟩)
    (x : (⟨3, ![n, L, M]⟩ : Shape).Idx → α) (w : (⟨3, ![1, L, M]⟩ : Shape).Idx → α) (t : Fin L → Fin M → α)
    (hw : ∀ j, w j = t (j 1) (j 2)) :
    concatenate ⟨3, ![N, L, M]⟩ 0 [⟨⟨3, ![n, L, M]⟩, x⟩, ⟨⟨3, ![1, L, M]⟩, w⟩] h
      = transpose ⟨3, ![N, L, M]⟩ [2, 0, 1] (pad3 n (transpose ⟨3, ![L, M, n]⟩ [1, 2, 0] x h₁) t : (⟨3, ![L, M, N]⟩ : Shape).Idx → α) h₂ := by
  funext y
  pointwise [pad3]
  by_cases hy : (y 0).val < n
  · refine (dif_pos hy).trans ?_
    refine Eq.trans ?_ (dif_pos hy).symm
    exact congrArg x (funext fun a => by fin_cases a <;> rfl)
  · refine (dif_neg hy).trans ((hw _).trans ?_)
    refine Eq.trans ?_ (dif_neg hy).symm
    rfl

/-- The bit widened to a byte is not zero exactly where the bit is set. -/
theorem ne_zero_extui {s : Shape} (b : IVec s 1) (z : IVec s 8) (h : 1 < 8) (hz : ∀ j, z j = 0#8) : cmpi .ne (extui 8 b h) z = b := by
  funext j
  pointwise [hz]
  generalize b j = v
  revert v
  decide

/-- The mask of the entries above zero, read back from its bytes, is the comparison itself. -/
theorem outTa_ne_zero (x : IVec Cert.KernelIdeal.S32768 32) (z : IVec Cert.KernelIdeal.S39322 8) (hz : ∀ j, z j = 0#8)
    (o : IVec Cert.KernelIdeal.S39322 32) (ho : ∀ j, o j = 0#32) :
    cmpi .sgt (Cert.KernelIdeal.Pad.outSp x) o = cmpi .ne (Cert.KernelIdeal.Pad.outTa (F := Ideal) x) z := by
  unfold Cert.KernelIdeal.Pad.outTa Cert.KernelIdeal.Gen.k0_pay5
  dsimp only
  rw [shapeCast_self, ne_zero_extui _ _ _ hz]
  funext j
  exact congrArg (IntOp.cmpi .sgt (Cert.KernelIdeal.Pad.outSp x j)) (ho j)

open Cert.ReferenceIdeal Cert.ReferenceIdeal.Gen in
/-- The reference's extra cell, the bit of comparing the coordinates read as a number, is the entry behind the kernel's cells: one on
    the diagonal and zero off it. -/
theorem eye (j : S1x3x3.Idx) :
    (broadcastInDim S1x3x3 ![1, 2] bcast_S3x3_S1x3x3_1_2 (uitofp .f32 (cmpi .eq (addi (iotaInDim S3x3 32 0)
        (broadcastInDim S3x3 ![] bcast_S_S3x3 (constantI S_ 32 0#32))) (iotaInDim S3x3 32 1))) : FVec Ideal S1x3x3 .f32) j
      = Cert.KernelIdeal.Gen.k0_pay9 (F := Ideal) (ix3 (j 1) (j 2) 0) := by
  pointwise [Cert.KernelIdeal.Gen.k0_pay9]
  have number (v : BitVec 1) : (FloatOps.uitofp FTy.f32 v : Ideal .f32) = ((v.toNat : ℝ) : EReal) := rfl
  rw [number, show ∀ v : BitVec 32, IntOp.addi v 0#32 = v from fun v => BitVec.add_zero v]
  generalize IntOp.cmpi .eq _ _ = v
  rcases bit_eq_zero_or_eq_one v with rfl | rfl
  · exact (Eq.trans (by simp) (ValueIdx.select_zero _ _).symm)
  · exact (Eq.trans (by simp) (ValueIdx.select_one _ _).symm)

open Cert.ReferenceIdeal Cert.ReferenceIdeal.Gen

/-- The reference's padded species are the kernel's: minus one times one is minus one. -/
theorem ref_sp (x : IVec S32768 32) :
    concatenate S39322 0 [⟨S32768, x⟩, ⟨S6554, muli (broadcastInDim S6554 ![] bcast_S_S6554 (constantI S_ 32 4294967295#32))
      (broadcastInDim S6554 ![] bcast_S_S6554 (constantI S_ 32 1#32))⟩] concatenates_S32768_S6554_S39322_d0 = Cert.KernelIdeal.Pad.outSp x :=
  concatenate_eq_pad1 _ _ _ _ fun _ => (by decide : 4294967295#32 * 1#32 = 4294967295#32)

/-- The reference's padded atom counts are the kernel's. -/
theorem ref_na (x : IVec S16 32) :
    concatenate S17 0 [⟨S16, x⟩, ⟨S1, constantI S1 32 6554#32⟩] concatenates_S16_S1_S17_d0 = Cert.KernelIdeal.Pad.outNa x :=
  concatenate_eq_pad1 _ _ _ _ fun _ => rfl

/-- The reference's padded batch index is the kernel's. -/
theorem ref_bi (x : IVec S32768 32) :
    concatenate S39322 0 [⟨S32768, x⟩, ⟨S6554, broadcastInDim S6554 ![] bcast_S_S6554 (constantI S_ 32 16#32)⟩]
      concatenates_S32768_S6554_S39322_d0 = Cert.KernelIdeal.Pad.outBi x :=
  concatenate_eq_pad1 _ _ _ _ fun _ => rfl

/-- The reference's padded coordinates are the kernel's, transposed back. -/
theorem ref_co (x : FVec Ideal S32768x3 .f32) :
    concatenate S39322x3 0 [⟨S32768x3, x⟩, ⟨S6554x3, broadcastInDim S6554x3 ![] bcast_S_S6554x3 (constant S_ .f32 0x00000000#32)⟩]
        concatenates_S32768x3_S6554x3_S39322x3_d0
      = transpose S39322x3 [1, 0] (Cert.KernelIdeal.Pad.outCo (F := Ideal)
          (transpose Cert.KernelIdeal.S3x32768 [1, 0] x Cert.KernelIdeal.Gen.transposes_S32768x3_S3x32768_1_0))
          Cert.KernelIdeal.Gen.transposes_S3x39322_S39322x3_1_0 :=
  concatenate_eq_pad2 _ _ _ _ _ _ fun _ => rfl

/-- The reference's padded cells are the kernel's, transposed back. -/
theorem ref_ce (x : FVec Ideal S16x3x3 .f32) :
    concatenate S17x3x3 0 [⟨S16x3x3, x⟩, ⟨S1x3x3, broadcastInDim S1x3x3 ![1, 2] bcast_S3x3_S1x3x3_1_2
        (uitofp .f32 (cmpi .eq (addi (iotaInDim S3x3 32 0) (broadcastInDim S3x3 ![] bcast_S_S3x3 (constantI S_ 32 0#32)))
          (iotaInDim S3x3 32 1)))⟩] concatenates_S16x3x3_S1x3x3_S17x3x3_d0
      = transpose S17x3x3 [2, 0, 1] (Cert.KernelIdeal.Pad.outCe (F := Ideal)
          (transpose Cert.KernelIdeal.S3x3x16 [1, 2, 0] x Cert.KernelIdeal.Gen.transposes_S16x3x3_S3x3x16_1_2_0))
          Cert.KernelIdeal.Gen.transposes_S3x3x17_S17x3x3_2_0_1 :=
  concatenate_eq_pad3 _ _ _ _ _ _ eye

/-- The reference's mask of true atoms is the kernel's. -/
theorem ref_ta (x : IVec S32768 32) :
    cmpi .sgt (concatenate S39322 0 [⟨S32768, x⟩, ⟨S6554, muli (broadcastInDim S6554 ![] bcast_S_S6554 (constantI S_ 32 4294967295#32))
        (broadcastInDim S6554 ![] bcast_S_S6554 (constantI S_ 32 1#32))⟩] concatenates_S32768_S6554_S39322_d0)
        (broadcastInDim S39322 ![] bcast_S_S39322 (constantI S_ 32 0#32))
      = cmpi .ne (Cert.KernelIdeal.Pad.outTa (F := Ideal) x)
          (broadcastInDim S39322 ![] Cert.KernelIdeal.Gen.bcast_S_S39322 (constantI S_ 8 0#8)) := by
  rw [ref_sp]
  exact outTa_ne_zero x _ (fun _ => rfl) _ fun _ => rfl

end Cert.Pad

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Values
public import Idealize.ShloMosaic.Adequacy
public import Idealize.ShloMosaic.Init

@[expose] public section

noncomputable section

namespace Cert.Proof

open Idealize.ShloMosaic Idealize.SL.Sem

/-- The kernel, on words, from any memory with zero counters: it terminates, its arguments end as they were, and every semaphore
    counter is at zero. It is the run of `Cert.KernelIdeal`, whose text is the same, at the words. -/
theorem frame_kernel : Cert.quiescent_Kernel := fun m g _ =>
  (θ_run Cert.Kernel.defs _ _).mono (fun _ h => ⟨fun c => (h.1 c).2, h.2⟩) (Cert.KernelIdeal.Pad.run (F := Bits) m g)

/-- The same of the kernel on extended reals. -/
theorem frame_kernelIdeal : Cert.quiescent_KernelIdeal := fun m g _ =>
  (θ_run Cert.KernelIdeal.defs _ _).mono (fun _ h => ⟨fun c => (h.1 c).2, h.2⟩) (Cert.KernelIdeal.Pad.run (F := Ideal) m g)

/-- The same of the reference, which has no semaphore. -/
theorem frame_reference : Cert.quiescent_ReferenceIdeal := fun m g _ =>
  (θ_run Cert.ReferenceIdeal.defs _ _).mono (fun r h => ⟨fun c => (h c).2.2.2.2.2.2.2, sem_eq_zero_of_no_sems (by decide) r.2⟩)
    (Cert.ReferenceIdeal.Value.run (F := Ideal) m g)

open Cert.KernelIdeal Cert.KernelIdeal.Gen Cert.KernelIdeal.Pad in
/-- From memories that agree on the five arguments, the kernel and the reference end with the same seven results. -/
theorem value : Cert.algebraic_KernelIdeal_ReferenceIdeal := by
  intro m g m' g' _ hagree
  refine ⟨fun c => outSp (m ((c.tc : Thread _ _).loc Cert.KernelIdeal.main_arg0)), fun c => outNa (m ((c.tc : Thread _ _).loc Cert.KernelIdeal.main_arg1)), fun c => outBi (m ((c.tc : Thread _ _).loc Cert.KernelIdeal.main_arg2)),
    fun c => transpose S39322x3 [1, 0] (outCo (F := Ideal) (transpose S3x32768 [1, 0] (m ((c.tc : Thread _ _).loc Cert.KernelIdeal.main_arg3)) transposes_S32768x3_S3x32768_1_0)) transposes_S3x39322_S39322x3_1_0,
    fun c => transpose S17x3x3 [2, 0, 1] (outCe (F := Ideal) (transpose S3x3x16 [1, 2, 0] (m ((c.tc : Thread _ _).loc Cert.KernelIdeal.main_arg4)) transposes_S16x3x3_S3x3x16_1_2_0)) transposes_S3x3x17_S17x3x3_2_0_1,
    fun c => cmpi .ne (outTa (F := Ideal) (m ((c.tc : Thread _ _).loc Cert.KernelIdeal.main_arg0))) (broadcastInDim S39322 ![] bcast_S_S39322 (constantI S_ 8 0#8)),
    fun c => cmpi .slt (iotaInDim S17 32 0) (broadcastInDim S17 ![] bcast_S_S17 (constantI S_ 32 16#32)),
    (θ_run Cert.KernelIdeal.defs _ _).mono (fun _ h c => ?_) (Cert.KernelIdeal.Pad.run (F := Ideal) m g),
    (θ_run Cert.ReferenceIdeal.defs _ _).mono (fun _ h c => ?_) (Cert.ReferenceIdeal.Value.run (F := Ideal) m' g')⟩
  · obtain ⟨⟨h0, h1, h2, h3, h4, h5, h6⟩, ha⟩ := h.1 c
    exact ⟨h0, h1, h2, h3, h4, h5, h6, ha⟩
  · obtain ⟨h0, h1, h2, h3, h4, h5, h6, ha⟩ := h c
    obtain ⟨a0, a1, a2, a3, a4⟩ := hagree c
    refine ⟨?_, ?_, ?_, ?_, ?_, ?_, h6, ha⟩
    · rw [h0, a0]; exact Cert.Pad.ref_sp _
    · rw [h1, a1]; exact Cert.Pad.ref_na _
    · rw [h2, a2]; exact Cert.Pad.ref_bi _
    · rw [h3, a3]; exact Cert.Pad.ref_co _
    · rw [h4, a4]; exact Cert.Pad.ref_ce _
    · rw [h5, a0]; exact Cert.Pad.ref_ta _

/-- Everything claimed of the kernel and the reference. -/
theorem claim : Cert.Claim := ⟨Cert.Kernel.Gen.facts, Cert.KernelIdeal.Gen.facts, Cert.ReferenceIdeal.Gen.facts,
  frame_kernel, frame_kernelIdeal, frame_reference, trivial, value⟩

end Cert.Proof

end
